-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x1024 : Shape := ⟨2, ![8192, 1024]⟩
abbrev S8192 : Shape := ⟨1, ![8192]⟩
abbrev S16x1024x256 : Shape := ⟨3, ![16, 1024, 256]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x1024 .f32) (main_arg1 : IVec S8192 32) (main_arg2 : FVec F S16x1024x256 .f32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 16#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S8192x1024 : Shape := ⟨2, ![8192, 1024]⟩
abbrev S8192 : Shape := ⟨1, ![8192]⟩
abbrev S16x1024x256 : Shape := ⟨3, ![16, 1024, 256]⟩
abbrev S8192x1 : Shape := ⟨2, ![8192, 1]⟩
abbrev S8192x256 : Shape := ⟨2, ![8192, 256]⟩
abbrev S512x1024 : Shape := ⟨2, ![512, 1024]⟩
abbrev S512x1 : Shape := ⟨2, ![512, 1]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16x1024x256, .f32⟩
  | .hbm, ⟨3, _⟩ => ⟨S8192x1, .i32⟩
  | .hbm, ⟨4, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024x256, .f32⟩
  | .local _ .vmem, ⟨5, _⟩ => ⟨S1x1024x256, .f32⟩
  | .local _ .vmem, ⟨6, _⟩ => ⟨S512x256, .f32⟩
  | .local _ .vmem, ⟨7, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8192x1024 : Shape := ⟨2, ![8192, 1024]⟩
abbrev S8192 : Shape := ⟨1, ![8192]⟩
abbrev S16x1024x256 : Shape := ⟨3, ![16, 1024, 256]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1024x256 : Shape := ⟨3, ![8192, 1024, 256]⟩
abbrev S8192x256 : Shape := ⟨2, ![8192, 256]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16x1024x256, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024x256, .f32⟩
  | .hbm, ⟨22, _⟩ => ⟨S8192x1024x256, .i1⟩
  | .hbm, ⟨23, _⟩ => ⟨S_, .f32⟩
  | .hbm, ⟨24, _⟩ => ⟨S8192x1024x256, .f32⟩
  | .hbm, ⟨25, _⟩ => ⟨S8192x1024x256, .f32⟩
  | .hbm, ⟨26, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Step.lean ====
/-
  One grid point of the routed product, for any float values.

  The kernel's grid is 16 row blocks by 16 experts. At a point the body multiplies the row block by the expert's matrix and keeps, of
  the output block, the rows whose routing word is not the expert's number. What it leaves in the output block is therefore a function
  of the three input blocks AND of what the output block held before.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.DatRel
public import Idealize.ShloMosaic.Lib.Pipeline.ValueKit
public import Idealize.ShloMosaic.Lib.Pipeline.ArrRel
public import Idealize.ShloMosaic.Lib.Claim

@[expose] public section

set_option maxRecDepth 16384

noncomputable section

namespace Cert.KernelIdeal.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The offsets of a load or store of a whole matrix are all zero. -/
theorem zero₂ : (![0, 0] : Fin 2 → Nat) = fun _ => 0 := funext fun a => by fin_cases a <;> rfl
/-- The offsets of a load of the whole one-matrix stack are all zero. -/
theorem zero₃ : (![0, 0, 0] : Fin 3 → Nat) = fun _ => 0 := funext fun a => by fin_cases a <;> rfl

/-- Reading a whole block back after one store of all of it gives what was stored. -/
theorem read_store {S : Shape} {e : EltTy} {κ : Kind} {sp : Space} (v : View sig κ sp S e) {off : Fin S.rank → Nat}
    (h : off = fun _ => 0) (inb : ∀ a, off a + S.size a ≤ S.size a) (f : v.ty.Contents (Elt F)) (p : S.Idx → Elt F e) :
    v.read (Elt F) (v.writes (Elt F) f [⟨Rect.unit off S.size inb, p⟩]) = p := by
  have hcov : ∀ j : S.Idx, ∃ q ∈ ([⟨Rect.unit off S.size inb, p⟩] : List (View.Piece (Elt F) S e)), j ∈ q.1.set := fun j =>
    ⟨⟨Rect.unit off S.size inb, p⟩, List.mem_singleton.mpr rfl, (Rect.mem_set_unit (inb := inb)).mpr fun a =>
      have h0 : off a = 0 := congrFun h a
      have hj : (j a : Nat) < S.size a := (j a).isLt
      ⟨by omega, by omega⟩⟩
  exact (View.read_writes_eq_canon v f _ hcov).trans (View.canon_unit_zero h inb p)

/-- A load of a whole block that reads as `x` gives `x`. -/
theorem load_whole {S : Shape} {e : EltTy} {κ : Kind} {sp : Space} (v : View sig κ sp S e) {off : Fin S.rank → Nat}
    (h : off = fun _ => 0) (inb : ∀ a, off a + S.size a ≤ S.size a) (f : v.ty.Contents (Elt F)) (x : S.Idx → Elt F e)
    (hx : v.read (Elt F) f = x) : v.readAt (Elt F) (Rect.unit off S.size inb).toLoadRect f = x := by
  rw [View.readAt_eq_ld, hx, View.ld_unit_zero h]

set_option maxHeartbeats 1000000 in
/-- The body, called at coordinates `i` on whole staging buffers holding a row block `x`, its routing words `s`, an expert's matrix `w`
    and an output block `y`, leaves the inputs as they were and the output block at the body's payload of all four. -/
theorem step (c : Dev nD) (i : grid0.Coords)
    (arg2 : Memref sig .tc .vmem S512x1024 .f32) (harg2 : arg2.IsWhole) (arg3 : Memref sig .tc .vmem S512x1 .i32) (harg3 : arg3.IsWhole)
    (arg4 : Memref sig .tc .vmem S1x1024x256 .f32) (harg4 : arg4.IsWhole) (arg5 : Memref sig .tc .vmem S512x256 .f32) (harg5 : arg5.IsWhole)
    (x : Vec F S512x1024 .f32) (s : Vec F S512x1 .i32) (w : Vec F S1x1024x256 .f32) (y : Vec F S512x256 .f32)
    (E : Set ℕ) (K : PUnit → sProp 𝕄) :
    iprop(owns (c : Thread nD τ) arg2 fullShare x ∗ owns (c : Thread nD τ) arg3 fullShare s ∗ owns (c : Thread nD τ) arg4 fullShare w
        ∗ owns (c : Thread nD τ) arg5 fullShare y
        ∗ (iprop(owns (c : Thread nD τ) arg2 fullShare x ∗ owns (c : Thread nD τ) arg3 fullShare s ∗ owns (c : Thread nD τ) arg4 fullShare w
            ∗ owns (c : Thread nD τ) arg5 fullShare (k0_pay1 i x w s y)) -∗ K ⟨⟩))
      ⊢ wp frame (wpE (defs₀ (F := F)) Variants.none c none) E (cc0__masked_body i arg2 harg2 arg3 harg3 arg4 harg4 arg5 harg5) K := by
  simp only [cc0__masked_body_eq_skeleton]; unfold cc0__masked_body_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  refine (read_store arg5.view zero₂ _ _ _).trans ?_
  rw [load_whole arg2.view zero₂ _ _ x hf0, load_whole arg3.view zero₂ _ _ s hf1, load_whole arg4.view zero₃ _ _ w hf2,
    load_whole arg5.view zero₂ _ _ y hf3]

end Cert.KernelIdeal.Routed

end
-- ==== Proof.Run.lean ====
/-
  The launch of the routed product's kernel, for any float values, with its output block described by a relation.

  The kernel reads its output block before it has stored anything there, so no formula names what the block holds at the first expert.
  What the run carries instead is a relation `R` between a grid point and the contents of the output block: if each point takes
  contents in relation at the point before (anything at all, at the first expert of a row block) to contents in relation at its own
  point, then what is written back at the end of each row block is in relation there.
-/
module

public import proofs.«01_k».proof.Proof.Step

@[expose] public section

set_option maxRecDepth 16384

noncomputable section

namespace Cert.KernelIdeal.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window that only the relation describes: the output's. -/
def related : Fin 4 → Bool := fun w => w.val == 3

/-- The proof data on core `c`: each array as the region finds it, each input's buffer left at its block, the output's not named. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the contents at the region's entry. -/
theorem dats_A (c : Dev nD) (w : Fin cfg0.W) : (dats m c).A w = V m c (Pipeline.arrRef spec0 w) := by dsimp only [dats]

/-- The activations' buffer is left at its block. -/
theorem after_x (c : Dev nD) (t : Fin cfg0.N) : (dats m c).after 0 t = iblk m c 0 t := by dsimp only [dats]
/-- The routing words' buffer is left at its block. -/
theorem after_s (c : Dev nD) (t : Fin cfg0.N) : (dats m c).after 1 t = iblk m c 1 t := by dsimp only [dats]
/-- The weights' buffer is left at its block. -/
theorem after_w (c : Dev nD) (t : Fin cfg0.N) : (dats m c).after 2 t = iblk m c 2 t := by dsimp only [dats]

/-- The activations' buffer holds its block when the body starts. -/
theorem before_x (c : Dev nD) (t : Fin cfg0.N) (d) : (dats m c).before 0 t d = iblk m c 0 t :=
  before0_0_of m (dats m c) (dats_A m c 0) (after_x m c) t d
/-- The routing words' buffer holds its block when the body starts. -/
theorem before_s (c : Dev nD) (t : Fin cfg0.N) (d) : (dats m c).before 1 t d = iblk m c 1 t :=
  before0_1_of m (dats m c) (dats_A m c 1) (after_s m c) t d
/-- The weights' buffer holds its block when the body starts. -/
theorem before_w (c : Dev nD) (t : Fin cfg0.N) (d) : (dats m c).before 2 t d = iblk m c 2 t :=
  before0_2_of m (dats m c) (dats_A m c 2) (after_w m c) t d

/-! ## The relation carried from point to point -/

variable (R : Dev nD → Fin cfg0.N → (S512x256.Idx → Elt F .f32) → Prop)

/-- `R` as a predicate on every window's contents: nothing is asked of the inputs'. -/
def held (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun t X => R c t X

/-- The relational proof data: the inputs at their blocks, the output's block in relation `R`. -/
abbrev rdat (c : Dev nD) : RDat τ (Elt F) Unit ℕ (UR sig nD τ) ℕ cfg0 c := (dats m c).toRRel related (held R c)

/-- The grid point before `t`. -/
abbrev prev (t : Fin cfg0.N) : Fin cfg0.N := ⟨t.val - 1, Nat.lt_of_le_of_lt (Nat.sub_le _ _) t.isLt⟩

/-- `R` IS KEPT: the body's payload is in relation at `t` for any output contents that were in relation at the point before, and at the
    first expert of a row block for any contents whatever. -/
def Kept : Prop := ∀ (c : Dev nD) (t : Fin cfg0.N) (Y : S512x256.Idx → Elt F .f32), (t.val % 16 ≠ 0 → R c (prev t) Y) →
  R c t (k0_pay1 (grid0.coords t) (iblk m c 0 t) (iblk m c 2 t) (iblk m c 1 t) Y)

/-- What the body may find in the output's buffer past the first expert of a row block was in relation at the point before. -/
theorem found (c : Dev nD) (t : Fin cfg0.N) (Y : S512x256.Idx → Elt F .f32) (h : (rdat m R c).Finds 3 t Y) (ht : t.val % 16 ≠ 0) :
    R c (prev t) Y := by
  have hfetch : (cfg0.win 3).fetch t = false := Pipeline.Window.fetch_out _ rfl t
  rcases (RDat.finds_of_pos _ hfetch (by omega) Y).mp h with hf | hl
  · have := (flush0_3 (prev t)).mp hf
    simp only [prev] at this; omega
  · exact Dat.toRRel_leaves (dats m c) (w := 3) rfl hl

/-! ## The body's obligation -/

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ Y, ⌜(rdat m R c).Finds 3 t Y⌝ ∗ owns (c : Thread nD τ) (st0_3 t) fullShare Y))

/-- What it hands back. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ (∃ X, ⌜held R c 3 t X⌝ ∗ owns (c : Thread nD τ) (st0_3 t) fullShare X))

/-- The body at any point, when `R` is kept: from the blocks and an output in relation at the point before to the blocks and an output
    in relation at this one. -/
theorem sound_body (hR : Kept m R) (c : Dev nD) (t : Fin cfg0.N) :
    bodyPre m R c t ⊢ wp frame (wpE (defs₀ (F := F)) Variants.none c none) Set.univ (bodyAt0 t) (fun _ => bodyPost m R c t) := by
  unfold bodyPre bodyPost bodyAt0
  simp only [before_x, before_s, before_w]
  rw [show (dats m c).Φ t.succ = (dats m c).Φ t.castSucc from rfl,
    show (dats m c).owesAt () t.succ = (dats m c).owesAt () t.castSucc from rfl, after_x, after_s, after_w]
  iintro ⟨HΦ, Ho, ⟨%d0, H0⟩, ⟨%d1, H1⟩, ⟨%d2, H2⟩, ⟨%Y, %hY, H3⟩⟩
  iapply (step c (grid0.coords t) _ _ _ _ _ _ _ _ (iblk m c 0 t) (iblk m c 1 t) (iblk m c 2 t) Y Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexists _; isplitr; swap; · iexact H3
  ipureintro
  exact hR c t Y (found m R c t Y hY)

/-- The body table's row at point `t` is the body as `bodyAt0` has it. -/
theorem body_row (t : Fin cfg0.N) : defs₀ (F := F) .tc cfg0.body (cfg0.bodyArgs t (cfg0.slots t)) = bodyAt0 t := by
  unfold defs₀; rw [Defs.onTc_tc]

/-- The library's body obligation, when `R` is kept. -/
theorem body_obligation (hR : Kept m R) (c : Dev nD) :
    BodyObligationRel (dats (F := F) m c) (defs₀ (F := F)) Variants.none () Set.univ related (held R c) := fun t => by
  rw [bigSep_W0, bigSep_W0, body_row]
  exact triple_restated (sound_body m R hR c t) rfl .rfl fun _ => .rfl

/-! ## The run -/

set_option backward.isDefEq.respectTransparency.types false in
/-- When `R` is kept, every weakly fair run of the kernel ends with its arrays as the relational proof data describe them, every other
    buffer as the region found it, and every semaphore counter at zero. -/
theorem run_main (hR : Kept m R) : θ_run defs (onTc (τ := τ) (main (F := F))) (s₀ m ρ)
    (fun r => RDat.FramePost (cfgs 0) (rdat m R) (V m) r ∧ r.2.sem = fun _ => 0) :=
  RDat.θ_run_frame (Q' := _) cfgs (0 : Fin 1) launch0 defs₀ Variants.none (rdat m R) m ρ main
    (hbody := fun c => (body_obligation m R hR c).toRRel) (hshare := fun c => (dats m c).share_full fun _ => rfl)
    (howed := fun _ _ => rfl) (V := V m) (hmain := hmain m Variants.none) (hA := dats_A m) (hΦ := fun _ _ => rfl)

/-- The argument arrays after such a run are as at the launch. -/
theorem args_unchanged {r : PUnit × MemSt nD τ sig (Elt F)} (h : RDat.FramePost (cfgs 0) (rdat m R) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans ((dats_A m c 0).trans (V_main_arg0 m c)),
    ((h c).2 main_arg1 (Pipeline.mem_restRefs_of main_arg1 (by decide) (by decide))).trans (V_main_arg1 m c),
    (RDat.FramePost.arr_in h c 2 rfl).trans ((dats_A m c 2).trans (V_main_arg2 m c))⟩

/-- THE FRAME of the kernel: from any memory with zero counters every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_unchanged m _ h.1, h.2⟩)
    (run_main m ρ (fun _ _ _ => True) fun _ _ _ _ => trivial)

end Cert.KernelIdeal.Routed

end
-- ==== Proof.Spec.lean ====
/-
  The function that kernel and reference both compute, in exact arithmetic: each row of the left operand times the matrix that the
  row's routing word names.
-/
module

public import Idealize.ShloMosaic.Lib.ValueIdx
public import Idealize.ShloMosaic.Lib.Pointwise.Index

@[expose] public section

noncomputable section

namespace Cert.Routed

open Idealize.ShloMosaic

/-- The expert that a routing word names, of sixteen. -/
def expert (b : BitVec 32) : Fin 16 := ⟨b.toNat % 16, Nat.mod_lt _ (by decide)⟩

/-- A word that reads as a number below sixteen names that expert. -/
theorem expert_of_toNat {b : BitVec 32} {e : Fin 16} (h : b.toNat = e.val) : expert b = e :=
  Fin.ext (by show b.toNat % 16 = e.val; rw [h]; exact Nat.mod_eq_of_lt e.isLt)

/-- THE ROUTED PRODUCT: entry `(i, n)` is the sum over `k` of `x[i, k]` times `w[s[i], k, n]`. -/
def product (x : (⟨2, ![8192, 1024]⟩ : Shape).Idx → EReal) (s : (⟨1, ![8192]⟩ : Shape).Idx → BitVec 32)
    (w : (⟨3, ![16, 1024, 256]⟩ : Shape).Idx → EReal) : (⟨2, ![8192, 256]⟩ : Shape).Idx → EReal :=
  fun j => ∑ k : Fin 1024, x (ix2 (j 0) k) * w (ix3 (expert (s (ix1 (j 0)))) k (j 1))

/-- The routed product at `(i, n)`. -/
theorem product_apply (x : (⟨2, ![8192, 1024]⟩ : Shape).Idx → EReal) (s : (⟨1, ![8192]⟩ : Shape).Idx → BitVec 32)
    (w : (⟨3, ![16, 1024, 256]⟩ : Shape).Idx → EReal) (i : Fin 8192) (n : Fin 256) :
    product x s w (ix2 i n) = ∑ k : Fin 1024, x (ix2 i k) * w (ix3 (expert (s (ix1 i))) k n) := rfl

end Cert.Routed

end
-- ==== Proof.Value.lean ====
/-
  What the routed product's kernel leaves in its result array, in exact arithmetic.
-/
module

public import proofs.«01_k».proof.Proof.Run
public import proofs.«01_k».proof.Proof.Spec
public import Idealize.ShloMosaic.Lib.MatmulPlain
public import Idealize.ShloMosaic.Lib.Pipeline.Covers

@[expose] public section

set_option maxRecDepth 16384

noncomputable section

namespace Cert.KernelIdeal.Routed

open Cert.KernelIdeal Cert.KernelIdeal.Gen Cert.Routed
open Idealize.ShloMosaic Idealize.ShloMosaic.TcCoe Idealize.ShloMosaic.Tactic
open Idealize.SL.Sem
open Idealize.ShloMosaic.Pipeline (RDat)

/-! ## The payload at an index -/

/-- The body's payload at row `r`, column `n`: the row times the expert's matrix where the row's routing word is the expert's number,
    what the output block held elsewhere. -/
theorem pay_apply (i : grid0.Coords) (x : Vec Ideal S512x1024 .f32) (w : Vec Ideal S1x1024x256 .f32) (s : Vec Ideal S512x1 .i32)
    (y : Vec Ideal S512x256 .f32) (r : Fin 512) (n : Fin 256) :
    k0_pay1 i x w s y (ix2 r n)
      = Scalar.select (Scalar.cmpi .eq (s (ix2 r 0)) (BitVec.ofNat 32 (i 1).val))
          (∑ k : Fin 1024, x (ix2 r k) * w (ix3 0 k n)) (y (ix2 r n)) := by
  unfold k0_pay1
  pointwise
  rfl

/-! ## Points -/

/-- The second coordinate of a point is its expert. -/
theorem coords_snd (t : Fin cfg0.N) : (grid0.coords t 1).val = t.val % 16 :=
  (by decide +kernel : ∀ t : Fin grid0.N, (grid0.coords t 1).val = t.val % 16) t

/-- The blocks a point works on: its block of rows for the activations, the words and the result, its expert for the weights. -/
theorem idx (t : Fin cfg0.N) : win0_0.index t = ![t.val / 16, 0] ∧ win0_1.index t = ![t.val / 16, 0]
    ∧ win0_2.index t = ![t.val % 16, 0, 0] ∧ win0_3.index t = ![t.val / 16, 0] :=
  (by decide +kernel : ∀ t : Fin grid0.N, win0_0.index t = ![t.val / 16, 0] ∧ win0_1.index t = ![t.val / 16, 0]
    ∧ win0_2.index t = ![t.val % 16, 0, 0] ∧ win0_3.index t = ![t.val / 16, 0]) t

variable (m : (ℓ : Loc nD τ sig) → Buf (Elt Ideal) ℓ) (ρ : Dev nD → PrngReg)

/-- There are 256 points. -/
theorem points (t : Fin cfg0.N) : t.val < 256 := by have h := t.isLt; have : cfg0.N = 256 := (by decide); omega

/-- The array row of row `r` of the block at point `t`. -/
def row (t : Fin cfg0.N) (r : Fin 512) : Fin 8192 := ⟨512 * (t.val / 16) + r.val, by have := points t; omega⟩

/-- The activations' block at a point, read at an index: its rows of the array. -/
theorem x_apply (c : Dev nD) (t : Fin cfg0.N) (r : Fin 512) (k : Fin 1024) :
    iblk m c 0 t (ix2 r k) = m ((c : Thread nD τ).loc main_arg0) (ix2 (row t r) k) := by
  have e := (idx t).1
  blk_ext! [iblk, V, row, e]

/-- The weights' block at a point, read at an index: the matrix of the point's expert. -/
theorem w_apply (c : Dev nD) (t : Fin cfg0.N) (k : Fin 1024) (n : Fin 256) :
    iblk m c 2 t (ix3 0 k n) = m ((c : Thread nD τ).loc main_arg2) (ix3 ⟨t.val % 16, Nat.mod_lt _ (by decide)⟩ k n) := by
  have e := (idx t).2.2.1
  blk_ext! [iblk, V, e]

/-- The routing words' block at a point, read at an index: its rows of the argument (the host line before the region lays the words
    out as one column). -/
theorem s_apply (c : Dev nD) (t : Fin cfg0.N) (r : Fin 512) :
    iblk m c 1 t (ix2 r 0) = m ((c : Thread nD τ).loc main_arg1) (ix1 (row t r)) := by
  have e := (idx t).2.1
  blk_ext! [iblk, V, row, e]

/-! ## What a point's output block holds -/

/-- The relation proved along the experts of one block of rows: after expert `e` every row whose routing word is at most `e` holds
    the routed product. -/
def Done (c : Dev nD) (t : Fin cfg0.N) (X : S512x256.Idx → EReal) : Prop :=
  ∀ (r : Fin 512) (n : Fin 256), (m ((c : Thread nD τ).loc main_arg1) (ix1 (row t r)) : BitVec 32).toNat ≤ t.val % 16 →
    X (ix2 r n) = product (m ((c : Thread nD τ).loc main_arg0)) (m ((c : Thread nD τ).loc main_arg1)) (m ((c : Thread nD τ).loc main_arg2))
      (ix2 (row t r) n)

/-- Every point of the grid keeps the relation: a row whose word is the point's expert is computed there, and one whose word is
    smaller was computed at an earlier point of the same block of rows. -/
theorem kept : Kept m (Done m) := by
  intro c t Y hY r n hr
  have hN := points t
  rw [pay_apply, s_apply, coords_snd]
  generalize hs : (m ((c : Thread nD τ).loc main_arg1) (ix1 (row t r)) : BitVec 32) = s at hr ⊢
  by_cases h : s.toNat = t.val % 16
  · have hb : s = BitVec.ofNat 32 (t.val % 16) := by
      apply BitVec.eq_of_toNat_eq
      rw [BitVec.toNat_ofNat, h]
      omega
    have hc : Scalar.cmpi .eq s (BitVec.ofNat 32 (t.val % 16)) = 1#1 := by rw [hb]; simp [Scalar.cmpi, IntOp.cmpi]
    rw [hc, ValueIdx.select_one, product_apply, hs, expert_of_toNat (e := ⟨t.val % 16, Nat.mod_lt _ (by decide)⟩) h]
    exact Finset.sum_congr rfl fun k _ => by rw [x_apply, w_apply]
  · have hc : Scalar.cmpi .eq s (BitVec.ofNat 32 (t.val % 16)) = 0#1 := by
      have hne : s ≠ BitVec.ofNat 32 (t.val % 16) := fun hb => h (by rw [hb, BitVec.toNat_ofNat]; omega)
      show BitVec.ofBool (s == BitVec.ofNat 32 (t.val % 16)) = 0#1
      rw [beq_false_of_ne hne]
      rfl
    rw [hc, ValueIdx.select_zero]
    have h0 : t.val % 16 ≠ 0 := by omega
    have hp : (prev t).val = t.val - 1 := rfl
    have hrow : row (prev t) r = row t r := Fin.ext (by simp only [row, hp]; omega)
    have := hY h0 r n (by rw [hrow, hs, hp]; omega)
    rwa [hrow] at this

/-! ## The result array -/

/-- The points that write the result back cover its array: the last expert's of each block of rows. -/
theorem covers : (cfg0.win 3).Covers := by decide +kernel

/-- Where row `r`, column `n` of a point's output block lies in the array. -/
theorem out_emb (t : Fin cfg0.N) (r : Fin 512) (n : Fin 256) : ((cfg0.win 3).blk t).view.emb (ix2 r n) = ix2 (row t r) n := by
  have e := (idx t).2.2.2
  blk_ext [row, e]

/-- THE RESULT: where every routing word is below sixteen, a run that ends as the relational proof data describe it leaves the routed
    product in the result array. -/
theorem result {r : PUnit × MemSt nD τ sig (Elt Ideal)} (h : RDat.FramePost (cfgs 0) (rdat m (Done m)) (V m) r) (c : Dev nD)
    (hs : ∀ i : Fin 8192, (m ((c : Thread nD τ).loc main_arg1) (ix1 i) : BitVec 32).toNat < 16) :
    r.2.mem ((c.tc : Thread nD τ).loc main_v1)
      = product (m ((c : Thread nD τ).loc main_arg0)) (m ((c : Thread nD τ).loc main_arg1)) (m ((c : Thread nD τ).loc main_arg2)) := by
  obtain ⟨after, hl, ha⟩ := RDat.FramePost.exists_exact h c
  refine (ha 3).trans (Pipeline.Dat.arrAt_eq_of_covers _ 3 _ covers fun t hf y => ?_)
  have hd : Done m c t (after 3 t) := Pipeline.Dat.toRRel_leaves (dats m c) (w := 3) rfl (hl 3 t hf)
  show after 3 t y = product _ _ _ (((cfg0.win 3).blk t).view.emb y)
  have h15 := (flush0_3 t).mp hf
  obtain ⟨p, n, rfl⟩ : ∃ (p : Fin 512) (n : Fin 256), y = ix2 p n := ⟨y 0, y 1, by funext a; match a with | ⟨0, _⟩ => rfl | ⟨1, _⟩ => rfl⟩
  rw [out_emb]
  exact hd p n (by rw [h15]; exact Nat.le_of_lt_succ (hs _))

end Cert.KernelIdeal.Routed

end
-- ==== Proof.Ref.lean ====
/-
  The reference's result, in exact arithmetic: under the range of the routing words it is the routed product.
-/
module

public import proofs.«01_k».proof.Proof.Gen.ReferenceIdeal.Run
public import proofs.«01_k».proof.Proof.Spec
public import proofs.«01_k».proof.Defs
public import proofs.«01_k».proof.Proof.Gen.Pre_in_range
public import Idealize.ShloMosaic.Lib.ReduceAll
public import Idealize.ShloMosaic.Lib.Claim
public import Idealize.ShloMosaic.Lib.Pipeline.ValueKit

@[expose] public section

set_option maxRecDepth 16384

noncomputable section

namespace Cert.ReferenceIdeal.Routed

open Cert.ReferenceIdeal Cert.ReferenceIdeal.Gen Cert.Routed
open Idealize.ShloMosaic Idealize.ShloMosaic.Tactic

/-- Entry `(i, n)` of the batched product: row `i` of the left operand times the matrix of batch `i`. -/
theorem dot_apply (x : FVec Ideal S8192x1024 .f32) (g : FVec Ideal S8192x1024x256 .f32) (i : Fin 8192) (n : Fin 256) :
    Host.dotGeneral dot_S8192x1024_S8192x1024x256_S8192x256_1_1_n_2_0_0 none x g (ix2 i n)
      = ∑ k : Fin 1024, x (ix2 i k) * g (ix3 i k n) := by
  pointwise

/-- The gather of whole matrices read at `(i, k, n)`: entry `(k, n)` of the matrix that start word `i` names, the word read signed and
    clamped to the matrices there are. -/
theorem gather_apply (w : FVec Ideal S16x1024x256 .f32) (idx : IVec S8192x1 32) (i : Fin 8192) (k : Fin 1024) (n : Fin 256) :
    Host.gather gather_S16x1024x256_S8192x1_S8192x1024x256_12_0_n_n_0_1_11024256 w idx (ix3 i k n)
      = w (ix3 ⟨min (idx (ix2 i 0)).toInt.toNat 15, by omega⟩ k n) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x1024x256_S8192x1_S8192x1024x256_12_0_n_n_0_1_11024256.startIndexMap from
      List.mem_singleton.mpr rfl)]
    refine congrArg (fun b : BitVec 32 => min b.toInt.toNat 15) (congrArg idx ?_)
    funext b
    match b with
    | ⟨0, _⟩ => rfl
    | ⟨1, _⟩ => rfl
  · unfold GatherDims.start
    rw [dif_neg (by decide), Nat.zero_add]
    rfl
  · unfold GatherDims.start
    rw [dif_neg (by decide), Nat.zero_add]
    rfl

/-! ## The routing words -/

/-- A word below sixteen passes the reference's wrap of negative words as it is. -/
theorem wrap_apply {b : BitVec 32} (h : b.toNat < 16) :
    Scalar.select (IntOp.cmpi .slt b 0#32) (IntOp.addi b 16#32) b = b := by
  have : IntOp.cmpi .slt b 0#32 = 0#1 := by
    show BitVec.ofBool (b.slt 0#32) = 0#1
    have : b.slt 0#32 = false := by
      rw [BitVec.slt_eq_decide, decide_eq_false_iff_not, BitVec.toInt_eq_toNat_of_lt (by omega)]
      simp
    rw [this]; rfl
  rw [this]; rfl

/-- A word below sixteen is in range: at least zero and at most fifteen. -/
theorem in_range {b : BitVec 32} (h : b.toNat < 16) :
    IntOp.andi (IntOp.cmpi .sge b 0#32) (IntOp.cmpi .sle b 15#32) = 1#1 := by
  have hi : b.toInt = b.toNat := BitVec.toInt_eq_toNat_of_lt (by omega)
  have h1 : IntOp.cmpi .sge b 0#32 = 1#1 := by
    show BitVec.ofBool ((0#32).sle b) = 1#1
    have : (0#32).sle b = true := by rw [BitVec.sle_eq_decide, decide_eq_true_iff, hi]; simp
    rw [this]; rfl
  have h2 : IntOp.cmpi .sle b 15#32 = 1#1 := by
    show BitVec.ofBool (b.sle 15#32) = 1#1
    have : b.sle 15#32 = true := by
      rw [BitVec.sle_eq_decide, decide_eq_true_iff, hi]
      have : (15#32 : BitVec 32).toInt = 15 := by decide
      omega
    rw [this]; rfl
  rw [h1, h2]; rfl

/-- A word that is signed at least zero and signed below sixteen reads as a number below sixteen. -/
theorem toNat_lt {b : BitVec 32} (h : IntOp.andi (IntOp.cmpi .sge b 0#32) (IntOp.cmpi .slt b 16#32) = 1#1) : b.toNat < 16 := by
  have h' : (BitVec.ofBool ((0#32).sle b)) &&& (BitVec.ofBool (b.slt 16#32)) = 1#1 := h
  have h1 : (0#32).sle b = true := by
    cases e : (0#32).sle b
    · rw [e] at h'; cases e' : b.slt 16#32 <;> rw [e'] at h' <;> exact absurd h' (by decide)
    · rfl
  have h2 : b.slt 16#32 = true := by
    rw [h1] at h'
    cases e' : b.slt 16#32
    · rw [e'] at h'; exact absurd h' (by decide)
    · rfl
  rw [BitVec.sle_eq_decide, decide_eq_true_iff] at h1
  rw [BitVec.slt_eq_decide, decide_eq_true_iff] at h2
  have e0 : (0#32 : BitVec 32).toInt = 0 := by decide
  have e16 : (16#32 : BitVec 32).toInt = 16 := by decide
  rw [e0] at h1
  rw [e16] at h2
  rw [BitVec.toInt_eq_toNat_cond] at h1 h2
  have := b.isLt
  split at h1 <;> omega

/-- THE PRECONDITION READ AT A ROW: every routing word is a number below sixteen. -/
theorem words_lt (x : FVec Ideal S8192x1024 .f32) (s : IVec S8192 32) (w : FVec Ideal S16x1024x256 .f32)
    (h : Cert.Pre_in_range.fn (F := Ideal) x s w = fun _ => 1#1) (i : Fin 8192) : (s (ix1 i)).toNat < 16 := by
  have h0 := congrFun h (fun a => a.elim0)
  unfold Cert.Pre_in_range.fn at h0
  haveI : Subsingleton Cert.Pre_in_range.S_.Idx := ⟨fun a b => funext fun i => i.elim0⟩
  exact toNat_lt (Host.reduce_andi_all _ _ _ _ _ h0 (ix1 i))

/-! ## The result -/

/-- The start words of the reference's gather, one column: the routing words, the negative ones wrapped. -/
def starts (s : IVec S8192 32) : IVec S8192x1 32 :=
  broadcastInDim S8192x1 ![0] bcast_S8192_S8192x1_0 (select (cmpi .slt s (broadcastInDim S8192 ![] bcast_S_S8192 (constantI S_ 32 0#32)))
    (addi s (broadcastInDim S8192 ![] bcast_S_S8192 (constantI S_ 32 16#32))) s)

/-- Which start words are in range. -/
def inside (s : IVec S8192 32) : IVec S8192 1 :=
  Host.reduce IntOp.andi (andi (cmpi .sge (starts s) (broadcastInDim S8192x1 ![] bcast_S_S8192x1 (constantI S_ 32 0#32)))
    (cmpi .sle (starts s) (broadcastInDim S8192x1 ![0, 1] bcast_S1x1_S8192x1_0_1
      (broadcastInDim S1x1 ![1] bcast_S1_S1x1_1 (constantI S1 32 15#32))))) (constantI S_ 1 1#1) reducesTo_S8192x1_S8192_d1 h_S_

/-- The reference's matrices, one per row, a row whose start word is out of range filled. -/
def taken (s : IVec S8192 32) (w : FVec Ideal S16x1024x256 .f32) : FVec Ideal S8192x1024x256 .f32 :=
  select (broadcastInDim S8192x1024x256 ![0] bcast_S8192_S8192x1024x256_0 (inside s))
    (Host.gather gather_S16x1024x256_S8192x1_S8192x1024x256_12_0_n_n_0_1_11024256 w (starts s))
    (broadcastInDim S8192x1024x256 ![] bcast_S_S8192x1024x256 (constant (F := Ideal) S_ .f32 0x7FC00000#32))

variable {s : IVec S8192 32} (hs : ∀ i : Fin 8192, (s (ix1 i)).toNat < 16)
include hs

/-- A start word is the row's routing word. -/
theorem starts_apply (i : Fin 8192) (z : Fin 1) : starts s (ix2 i z) = s (ix1 i) := by
  refine Eq.trans ?_ (wrap_apply (hs i))
  unfold starts
  pointwise

/-- Every start word is in range. -/
theorem inside_apply (i : Fin 8192) : inside s (ix1 i) = 1#1 := by
  refine Host.reduce_andi_one _ _ _ _ _ rfl fun j => ?_
  obtain ⟨p, z, rfl⟩ : ∃ (p : Fin 8192) (z : Fin 1), j = ix2 p z :=
    ⟨j 0, j 1, by funext a; match a with | ⟨0, _⟩ => rfl | ⟨1, _⟩ => rfl⟩
  refine Eq.trans ?_ (in_range (hs p))
  show IntOp.andi (IntOp.cmpi .sge (starts s (ix2 p z)) 0#32) (IntOp.cmpi .sle (starts s (ix2 p z)) 15#32) = _
  rw [starts_apply hs]

/-- Entry `(i, k, n)` of the reference's matrices is entry `(k, n)` of the matrix that word `i` names. -/
theorem taken_apply (w : FVec Ideal S16x1024x256 .f32) (i : Fin 8192) (k : Fin 1024) (n : Fin 256) :
    taken s w (ix3 i k n) = w (ix3 (expert (s (ix1 i))) k n) := by
  have h := hs i
  have hm : broadcastInDim S8192x1024x256 ![0] bcast_S8192_S8192x1024x256_0 (inside s) (ix3 i k n) = inside s (ix1 i) := by pointwise
  unfold taken
  rw [ValueIdx.select_apply, hm, inside_apply hs, ValueIdx.select_one, gather_apply]
  refine congrArg w (congrArg (fun e => ix3 e k n) (Fin.ext ?_))
  show min (starts s (ix2 i 0)).toInt.toNat 15 = (s (ix1 i)).toNat % 16
  rw [starts_apply hs, BitVec.toInt_eq_toNat_of_lt (by omega)]
  omega

/-- THE REFERENCE'S RESULT is the routed product. -/
theorem result (x : FVec Ideal S8192x1024 .f32) (w : FVec Ideal S16x1024x256 .f32) :
    Host.dotGeneral dot_S8192x1024_S8192x1024x256_S8192x256_1_1_n_2_0_0 none x (taken s w) = product x s w := by
  funext j
  obtain ⟨i, n, rfl⟩ : ∃ (i : Fin 8192) (n : Fin 256), j = ix2 i n :=
    ⟨j 0, j 1, by funext a; match a with | ⟨0, _⟩ => rfl | ⟨1, _⟩ => rfl⟩
  rw [dot_apply, product_apply]
  exact Finset.sum_congr rfl fun k _ => by rw [taken_apply hs]

end Cert.ReferenceIdeal.Routed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Bits.Run
public import proofs.«01_k».proof.Proof.Value
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of the reference: its run leaves the arguments as they were, and it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m ρ)

/-- THE VALUE CLAIM: where every routing word is in range, the kernel and the reference both end with the routed product of their
    arguments, which agree. -/
theorem value : algebraic_KernelIdeal_ReferenceIdeal_pre_in_range := by
  intro m g m' g' hpre hargs
  have hs : ∀ (c : Dev Cert.KernelIdeal.nD) (i : Fin 8192),
      (m ((c.tc : Thread Cert.KernelIdeal.nD Cert.KernelIdeal.τ).loc Cert.KernelIdeal.main_arg1) (ix1 i) : BitVec 32).toNat < 16 :=
    fun c i => Cert.ReferenceIdeal.Routed.words_lt _ _ _ (hpre c) i
  refine ⟨_, (θ_run Cert.KernelIdeal.defs _ _).mono (fun r h c =>
      ⟨Cert.KernelIdeal.Routed.result m h.1 c (hs c), Cert.KernelIdeal.Routed.args_unchanged m _ h.1 c⟩)
    (Cert.KernelIdeal.Routed.run_main m g _ (Cert.KernelIdeal.Routed.kept m)),
    (θ_run Cert.ReferenceIdeal.defs _ _).mono (fun r h c => ⟨(h c).1.trans ?_, (h c).2⟩)
    (Cert.ReferenceIdeal.Value.run (F := Ideal) m' g')⟩
  rw [(hargs c).1, (hargs c).2.1, (hargs c).2.2]
  exact Cert.ReferenceIdeal.Routed.result (hs c) _ _

/-- The certificate's claim. -/
theorem claim : Cert.Claim := ⟨Cert.Kernel.Gen.facts, Cert.KernelIdeal.Gen.facts, Cert.ReferenceIdeal.Gen.facts, Cert.Pre_in_range.Gen.facts,
  fun m ρ _ => Cert.Kernel.Routed.frame m ρ,
  fun m ρ _ => Cert.KernelIdeal.Routed.frame m ρ, fun m ρ _ => Cert.KernelIdeal.Routed.frame m ρ,
  fun m ρ _ => reference_frame m ρ, fun m ρ _ => reference_frame m ρ, trivial, value⟩

end Cert.Proof

end
